-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Body.lean ====
/- WHAT THE KERNEL BODY COMPUTES, from the contents of its staging buffers, at any float values: at the first grid
   point the scratch gets `x · w` and the output block `adj · (x · w) + b`; at every later point the scratch stays
   and the output block is `adj · scratch + b`. -/
module

public import proofs.«01_k».proof.Proof.Gen.KernelIdeal.Frame
public import Idealize.ShloMosaic.Lib.Pipeline.Value
public import Idealize.ShloMosaic.Lib.Tactic

@[expose] public section

noncomputable section

namespace Cert.KernelIdeal.Layer

open Cert.KernelIdeal Cert.KernelIdeal.Gen Idealize.ShloMosaic Idealize.ShloMosaic.TcCoe Idealize.SL.Sem

variable {F : FTy → Type} [FloatOps F]

/-- The offsets of an access to a whole matrix are zero on both axes. -/
theorem offsets_zero : (![0, 0] : Fin 2 → Nat) = fun _ => 0 := by
  funext a; fin_cases a <;> rfl

section Cases

variable (c : Dev nD) (i : grid0.Coords)
  (a1 : Memref sig .tc .vmem S10000x128 .f32) (h1 : a1.IsWhole) (a2 : Memref sig .tc .vmem S128x128 .f32) (h2 : a2.IsWhole)
  (a3 : Memref sig .tc .vmem S1x128 .f32) (h3 : a3.IsWhole) (a4 : Memref sig .tc .vmem S400x10000 .f32) (h4 : a4.IsWhole)
  (a5 : Memref sig .tc .vmem S400x128 .f32) (h5 : a5.IsWhole) (a6 : Memref sig .tc .vmem S10000x128 .f32) (h6 : a6.IsWhole)
  (x : Vec F S10000x128 .f32) (w : Vec F S128x128 .f32) (b : Vec F S1x128 .f32) (adj : Vec F S400x10000 .f32)
  (s : Vec F S10000x128 .f32)

/-- At the first point the scratch is left holding the product of the features and the weight. -/
theorem scratch_first (hc : cond0_0 i) :
    sout0_A_0 c i a1 h1 a2 h2 a3 h3 a4 h4 a5 h5 a6 h6 hc x w b adj = k0_pay1 x w := by
  unfold sout0_A_0
  rw [View.read_writes_eq_canon _ _ _ (scover0_A_0 c i a1 h1 a2 h2 a3 h3 a4 h4 a5 h5 a6 h6 hc x w b adj)]
  unfold kernelRun0_A
  dsimp only
  sl_unfold_words
  rw [View.canon_unit_zero offsets_zero]
  simp only [View.readAt_eq_ld, h1.read_unread, h2.read_unread,
    View.ld_unit_zero (S := S10000x128) offsets_zero, View.ld_unit_zero (S := S128x128) offsets_zero]

/-- At the first point the output block is computed from the scratch just stored. -/
theorem block_first (hc : cond0_0 i) :
    out0_A_4 c i a1 h1 a2 h2 a3 h3 a4 h4 a5 h5 a6 h6 hc x w b adj = k0_pay2 adj (k0_pay1 x w) b := by
  unfold out0_A_4
  rw [View.read_writes_eq_canon _ _ _ (cover0_A_4 c i a1 h1 a2 h2 a3 h3 a4 h4 a5 h5 a6 h6 hc x w b adj)]
  unfold kernelRun0_A
  dsimp only
  sl_unfold_words
  rw [View.canon_unit_zero offsets_zero, View.readCov_unit_zero (S := S10000x128) _ offsets_zero]
  simp only [View.readAt_eq_ld, h1.read_unread, h2.read_unread, h3.read_unread, h4.read_unread,
    View.ld_unit_zero (S := S10000x128) offsets_zero, View.ld_unit_zero (S := S128x128) offsets_zero,
    View.ld_unit_zero (S := S1x128) offsets_zero, View.ld_unit_zero (S := S400x10000) offsets_zero]

/-- At a later point the output block is computed from what the scratch held. -/
theorem block_later (hc : ¬cond0_0 i) :
    out0_B_4 c i a1 h1 a2 h2 a3 h3 a4 h4 a5 h5 a6 h6 hc x w b adj s = k0_pay2 adj s b := by
  unfold out0_B_4
  rw [View.read_writes_eq_canon _ _ _ (cover0_B_4 c i a1 h1 a2 h2 a3 h3 a4 h4 a5 h5 a6 h6 hc x w b adj s)]
  unfold kernelRun0_B
  dsimp only
  sl_unfold_words
  rw [View.canon_unit_zero offsets_zero]
  simp only [View.readAt_eq_ld, h6.read_unread, h3.read_unread, h4.read_unread,
    View.ld_unit_zero (S := S10000x128) offsets_zero,
    View.ld_unit_zero (S := S1x128) offsets_zero, View.ld_unit_zero (S := S400x10000) offsets_zero]

end Cases

variable (m : (ℓ : Loc nD τ sig) → Buf (Elt F) ℓ)

/-- The supports: the product that the first point leaves in the scratch. -/
def support (c : Dev nD) : Vec F S10000x128 .f32 :=
  k0_pay1 (iblk m c 0 ⟨0, lt_of_lt_of_eq (by decide) N_0.symm⟩) (iblk m c 1 ⟨0, lt_of_lt_of_eq (by decide) N_0.symm⟩)

/-- After every grid point the output's buffer holds the point's rows of the layer, and the scratch the supports. -/
theorem after_point (c : Dev nD) : ∀ (n : ℕ) (h : n < cfg0.N),
    outsAt0 m c n h = (k0_pay2 (iblk m c 3 ⟨n, h⟩) (support m c) (iblk m c 2 ⟨n, h⟩), support m c)
  | 0, h => by
    rw [outsAt0_A m c ⟨0, h⟩ rfl, block_first, scratch_first]
    rfl
  | n + 1, h => by
    have hN : cfg0.N = 25 := N_0
    have later : ¬(⟨n + 1, h⟩ : Fin cfg0.N).val % 25 = 0 := by dsimp only; omega
    rw [outsAt0_B m c ⟨n + 1, h⟩ later, block_later]
    unfold sout0_B_0
    show (k0_pay2 _ (outsAt0 m c n _).2 _, (outsAt0 m c n _).2) = _
    rw [after_point c n (Nat.lt_of_succ_lt h)]

end Cert.KernelIdeal.Layer

end
-- ==== Proof.Layer.lean ====
/- THE LAYER as one function of the four arguments over the extended reals, entry by entry, and what the kernel's
   two block computations are at an entry: both matrix products are sums over the contracted coordinate. -/
module

public import proofs.«01_k».proof.Proof.Body
public import Idealize.ShloMosaic.Lib.MatmulPlain
public import Idealize.ShloMosaic.Lib.StackMember
public import Idealize.ShloMosaic.Lib.KernelVsHost
public import Idealize.ShloMosaic.Lib.ValueIdx

@[expose] public section

noncomputable section

namespace Cert.KernelIdeal.Layer

open Cert.KernelIdeal Cert.KernelIdeal.Gen Idealize.ShloMosaic Idealize.ShloMosaic.ValueIdx
open scoped BigOperators

/-- The supports at node `k` and feature `q`: `∑ j, x[k, j] · w[j, q]`. -/
def supportAt (x : FVec Ideal S10000x128 .f32) (w : FVec Ideal S128x128 .f32) (k : Fin 10000) (q : Fin 128) : EReal :=
  ∑ j : Fin 128, x (ix2 k j) * w (ix2 j q)

/-- The layer at node `p` and feature `q`: `∑ k, adj[p, k] · support[k, q] + b[q]`. -/
def layerAt (x : FVec Ideal S10000x128 .f32) (adj : FVec Ideal S10000x10000 .f32) (w : FVec Ideal S128x128 .f32)
    (b : FVec Ideal S128 .f32) (p : Fin 10000) (q : Fin 128) : EReal :=
  (∑ k : Fin 10000, adj (ix2 p k) * supportAt x w k q) + b (ix1 q)

/-- The first point's product, at an entry. -/
theorem pay1_at (x : FVec Ideal S10000x128 .f32) (w : FVec Ideal S128x128 .f32) (k : Fin 10000) (q : Fin 128) :
    k0_pay1 (F := Ideal) x w (ix2 k q) = supportAt x w k q := by
  unfold k0_pay1
  rw [shapeCast_self, matmul_zero_eq_dotGeneral]
  exact StackMember.dotGeneral_plain_apply none x w k q

/-- An output block at an entry: the product of the block of the adjacency with the scratch, plus the bias row. -/
theorem pay2_at (adj : FVec Ideal S400x10000 .f32) (s : FVec Ideal S10000x128 .f32) (b : FVec Ideal S1x128 .f32)
    (p : Fin 400) (q : Fin 128) :
    k0_pay2 (F := Ideal) adj s b (ix2 p q)
      = (∑ k : Fin 10000, adj (ix2 p k) * s (ix2 k q)) + b (ix2 (0 : Fin 1) q) := by
  unfold k0_pay2
  rw [shapeCast_self, ValueIdx.addf_apply, matmul_zero_eq_dotGeneral]
  refine congrArg₂ (· + ·) ?_ ?_
  · exact StackMember.dotGeneral_plain_apply none adj s p q
  · exact broadcastTo_apply b _ (ix2 p q) (ix2 (0 : Fin 1) q) (by
      intro a
      match a with
      | ⟨0, _⟩ => rfl
      | ⟨1, _⟩ => rfl)

end Cert.KernelIdeal.Layer

end
-- ==== Proof.KernelValue.lean ====
/- WHAT THE KERNEL'S RESULT ARRAY HOLDS: at every entry the layer of the four arguments. Each input window's block is
   read off its argument (the bias through the host's reshape to one row), and the block that holds row `p` is the one
   that point `p / 400` writes back. -/
module

public import proofs.«01_k».proof.Proof.Layer
public import proofs.«01_k».proof.Proof.Gen.KernelIdeal.Value
public import Idealize.ShloMosaic.Lib.StableHlo.Run

@[expose] public section

noncomputable section

namespace Cert.KernelIdeal.Layer

open Cert.KernelIdeal Cert.KernelIdeal.Gen Idealize.ShloMosaic Idealize.ShloMosaic.TcCoe Idealize.ShloMosaic.ValueIdx
open Idealize.SL.Sem Idealize.ShloMosaic.StableHlo
open scoped BigOperators

variable (m : (ℓ : Loc nD τ sig) → Buf (Elt Ideal) ℓ)

/-- Device `c`'s features, adjacency, weight and bias at the launch. -/
abbrev feats (c : Dev nD) : FVec Ideal S10000x128 .f32 := m ((c : Thread nD τ).loc main_arg0)
abbrev adjacency (c : Dev nD) : FVec Ideal S10000x10000 .f32 := m ((c : Thread nD τ).loc main_arg1)
abbrev weight (c : Dev nD) : FVec Ideal S128x128 .f32 := m ((c : Thread nD τ).loc main_arg2)
abbrev bias (c : Dev nD) : FVec Ideal S128 .f32 := m ((c : Thread nD τ).loc main_arg3)

/-- Which block each window is on at point `t`: the adjacency's window is on row block `t`, the others on their
    array's only block. -/
theorem window_index : ∀ t : Fin cfg0.N,
    (∀ a, win0_0.index t a = 0) ∧ (∀ a, win0_1.index t a = 0) ∧ (∀ a, win0_2.index t a = 0)
      ∧ win0_3.index t (0 : Fin 2) = t.val ∧ win0_3.index t (1 : Fin 2) = 0 :=
  (by decide +kernel : ∀ t : Fin grid0.N, (∀ a, win0_0.index t a = 0) ∧ (∀ a, win0_1.index t a = 0)
    ∧ (∀ a, win0_2.index t a = 0) ∧ win0_3.index t (0 : Fin 2) = t.val ∧ win0_3.index t (1 : Fin 2) = 0)

/-- The features' block is the features, at every point. -/
theorem feats_block (c : Dev nD) (t : Fin cfg0.N) (k : Fin 10000) (j : Fin 128) :
    (iblk m c 0 t : FVec Ideal S10000x128 .f32) (ix2 k j) = feats m c (ix2 k j) := by
  have e := (window_index t).1
  unfold iblk
  rw [View.read_apply]
  refine (congrFun (V_main_arg0 m c) _).trans (congrArg (feats m c) (funext fun a => Fin.ext ?_))
  match a with
  | ⟨0, _⟩ => show win0_0.index t (0 : Fin 2) * 10000 + 1 * k.val = k.val; rw [e 0]; omega
  | ⟨1, _⟩ => show win0_0.index t (1 : Fin 2) * 128 + 1 * j.val = j.val; rw [e 1]; omega

/-- The weight's block is the weight, at every point. -/
theorem weight_block (c : Dev nD) (t : Fin cfg0.N) (j q : Fin 128) :
    (iblk m c 1 t : FVec Ideal S128x128 .f32) (ix2 j q) = weight m c (ix2 j q) := by
  have e := (window_index t).2.1
  unfold iblk
  rw [View.read_apply]
  refine (congrFun (V_main_arg2 m c) _).trans (congrArg (weight m c) (funext fun a => Fin.ext ?_))
  match a with
  | ⟨0, _⟩ => show win0_1.index t (0 : Fin 2) * 128 + 1 * j.val = j.val; rw [e 0]; omega
  | ⟨1, _⟩ => show win0_1.index t (1 : Fin 2) * 128 + 1 * q.val = q.val; rw [e 1]; omega

/-- The host's reshape leaves the bias as one row in the buffer that the bias window stages. -/
theorem bias_row (c : Dev nD) :
    (V m c main_v0 : FVec Ideal S1x128 .f32) = shapeCast S1x128 (bias m c) shapeCasts_S128_S1x128 := by
  unfold V
  after_results
  rfl

/-- The bias window's block is the bias, laid in one row, at every point. -/
theorem bias_block (c : Dev nD) (t : Fin cfg0.N) (q : Fin 128) :
    (iblk m c 2 t : FVec Ideal S1x128 .f32) (ix2 (0 : Fin 1) q) = bias m c (ix1 q) := by
  have e := (window_index t).2.2.1
  unfold iblk
  rw [View.read_apply]
  refine (congrFun (bias_row m c) _).trans (shapeCast_apply _ _ _ (ix1 q) ?_)
  rw [Shape.rowMajor_val_two, Shape.rowMajor_val_one]
  show q.val = (win0_2.index t (0 : Fin 2) * 1 + 1 * 0) * 128 + (win0_2.index t (1 : Fin 2) * 128 + 1 * q.val)
  rw [e 0, e 1]; omega

/-- The adjacency's block at point `t` is its rows from `400 t` on. -/
theorem adjacency_block (c : Dev nD) (t : Fin cfg0.N) (r : Fin 400) (k p : Fin 10000) (hp : p.val = 400 * t.val + r.val) :
    (iblk m c 3 t : FVec Ideal S400x10000 .f32) (ix2 r k) = adjacency m c (ix2 p k) := by
  have e := (window_index t).2.2.2
  unfold iblk
  rw [View.read_apply]
  refine (congrFun (V_main_arg1 m c) _).trans (congrArg (adjacency m c) (funext fun a => Fin.ext ?_))
  match a with
  | ⟨0, _⟩ => show win0_3.index t (0 : Fin 2) * 400 + 1 * r.val = p.val; rw [e.1, hp]; omega
  | ⟨1, _⟩ => show win0_3.index t (1 : Fin 2) * 10000 + 1 * k.val = k.val; rw [e.2]; omega

/-- The scratch holds the supports of the arguments. -/
theorem support_eq (c : Dev nD) (k : Fin 10000) (q : Fin 128) :
    support m c (ix2 k q) = supportAt (feats m c) (weight m c) k q := by
  unfold support
  rw [pay1_at]
  exact Finset.sum_congr rfl fun j _ => congrArg₂ (· * ·) (feats_block m c _ k j) (weight_block m c _ j q)

/-- What point `t` leaves at row `r` of the output block is the layer at row `400 t + r`. -/
theorem block_eq (c : Dev nD) (t : Fin cfg0.N) (r : Fin 400) (q : Fin 128) (p : Fin 10000)
    (hp : p.val = 400 * t.val + r.val) :
    (outsAt0 m c t.val t.isLt).1 (ix2 r q) = layerAt (feats m c) (adjacency m c) (weight m c) (bias m c) p q := by
  rw [after_point m c t.val t.isLt]
  refine (pay2_at _ _ _ r q).trans ?_
  unfold layerAt
  refine congrArg₂ (· + ·) (Finset.sum_congr rfl fun k _ => ?_) (bias_block m c t q)
  exact congrArg₂ (· * ·) (adjacency_block m c t r k p hp) (support_eq m c k q)

/-- THE RESULT ARRAY holds the layer at every entry. -/
theorem result_at (c : Dev nD) (p : Fin 10000) (q : Fin 128) :
    Value.G4 m c (ix2 p q) = layerAt (feats m c) (adjacency m c) (weight m c) (bias m c) p q := by
  have hN : cfg0.N = 25 := N_0
  have hp := p.isLt
  have hq := q.isLt
  have hpt : Value.pt4Of (ix2 p q) = p.val / 400 := by
    show 1 * (p.val / 400 - 0) + 1 * (q.val / 128 - 0) = p.val / 400
    omega
  have hlt : Value.pt4Of (ix2 p q) < cfg0.N := by omega
  have hloc : Value.loc4Of (ix2 p q) = ix2 (⟨p.val % 400, Nat.mod_lt _ (by decide)⟩ : Fin 400) q := by
    funext a
    apply Fin.ext
    match a with
    | ⟨0, _⟩ => rfl
    | ⟨1, _⟩ => exact Nat.mod_eq_of_lt hq
  unfold Value.G4
  rw [dif_pos hlt, ← Value.outsAt0_sweep m c _ hlt, hloc]
  exact block_eq m c ⟨_, hlt⟩ _ q p (by show p.val = 400 * Value.pt4Of (ix2 p q) + p.val % 400; omega)

end Cert.KernelIdeal.Layer

end
-- ==== Proof.ReferenceValue.lean ====
/- WHAT THE REFERENCE COMPUTES, entry by entry: the same sums as the layer's. -/
module

public import proofs.«01_k».proof.Proof.Layer
public import proofs.«01_k».proof.Proof.Gen.ReferenceIdeal.Run

@[expose] public section

noncomputable section

namespace Cert.ReferenceIdeal.Layer

open Cert.ReferenceIdeal Cert.ReferenceIdeal.Gen Idealize.ShloMosaic Idealize.ShloMosaic.ValueIdx
open Cert.KernelIdeal.Layer (layerAt supportAt)
open scoped BigOperators

/-- The reference's result, as its host operations compose it. -/
abbrev composed (x : FVec Ideal S10000x128 .f32) (adj : FVec Ideal S10000x10000 .f32) (w : FVec Ideal S128x128 .f32)
    (b : FVec Ideal S128 .f32) : FVec Ideal S10000x128 .f32 :=
  addf (Host.dotGeneral dot_S10000x10000_S10000x128_S10000x128_1_0_0_1_n_n none adj
      (Host.dotGeneral dot_S10000x128_S128x128_S10000x128_1_0_0_1_n_n none x w))
    (broadcastInDim S10000x128 ![0, 1] bcast_S1x128_S10000x128_0_1 (broadcastInDim S1x128 ![1] bcast_S128_S1x128_1 b))

/-- The reference's result at an entry is the layer there. -/
theorem composed_at (x : FVec Ideal S10000x128 .f32) (adj : FVec Ideal S10000x10000 .f32) (w : FVec Ideal S128x128 .f32)
    (b : FVec Ideal S128 .f32) (p : Fin 10000) (q : Fin 128) : composed x adj w b (ix2 p q) = layerAt x adj w b p q := by
  unfold composed layerAt
  rw [ValueIdx.addf_apply]
  refine congrArg₂ (· + ·) ?_ ?_
  · refine (StackMember.dotGeneral_plain_apply none adj _ p q).trans (Finset.sum_congr rfl fun k _ => ?_)
    exact congrArg (adj (ix2 p k) * ·) (StackMember.dotGeneral_plain_apply none x w k q)
  · refine (broadcastInDim_oneRow_apply _ _ p q).trans (broadcastInDim_apply _ _ _ _ (ix1 q) fun a => ?_)
    match a with
    | ⟨0, _⟩ => rfl

end Cert.ReferenceIdeal.Layer

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem

/-- The reference terminates, keeps its arguments and, declaring no semaphore, ends with every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with equal result arrays over the extended reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1]
  simp only [hagree c]
  funext i
  obtain ⟨p, q, rfl⟩ : ∃ (p : Fin 10000) (q : Fin 128), i = ix2 p q := ⟨i 0, i 1, eq_ix2 i⟩
  exact (Cert.ReferenceIdeal.Layer.composed_at _ _ _ _ p q).trans (Cert.KernelIdeal.Layer.result_at m c p q).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal,
  (trivial : preserves_Kernel_KernelIdeal), algebraic_KernelIdeal_ReferenceIdeal⟩

end Cert.Proof

end
